-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x2048x1024 : Shape := ⟨3, ![4, 2048, 1024]⟩
abbrev S2050x1024 : Shape := ⟨2, ![2050, 1024]⟩
abbrev S2x1024 : Shape := ⟨2, ![2, 1024]⟩
abbrev S1024x1024 : Shape := ⟨2, ![1024, 1024]⟩
abbrev S1024 : Shape := ⟨1, ![1024]⟩
abbrev S1x1024 : Shape := ⟨2, ![1, 1024]⟩
abbrev S4x2050x1024 : Shape := ⟨3, ![4, 2050, 1024]⟩
abbrev S1x2048x1024 : Shape := ⟨3, ![1, 2048, 1024]⟩
abbrev S1x2050x1024 : Shape := ⟨3, ![1, 2050, 1024]⟩
abbrev S2048x1024 : Shape := ⟨2, ![2048, 1024]⟩

abbrev nBuf : Space → Nat
  | .hbm => 7
  | .vmem => 8
  | .smem => 0
  | _ => 0

abbrev bufTy : (tb : Table) → Fin (tcTables nBuf tb) → BufTy
  | .hbm, ⟨0, _⟩ => ⟨S4x2048x1024, .f32⟩
  | .hbm, ⟨1, _⟩ => ⟨S2050x1024, .f32⟩
  | .hbm, ⟨2, _⟩ => ⟨S2x1024, .f32⟩
  | .hbm, ⟨3, _⟩ => ⟨S1024x1024, .f32⟩
  | .hbm, ⟨4, _⟩ => ⟨S1024, .f32⟩
  | .hbm, ⟨5, _⟩ => ⟨S1x1024, .f32⟩
  | .hbm, ⟨6, _⟩ => ⟨S4x2050x1024, .f32⟩
  | .local _ .vmem, ⟨0, _⟩ => ⟨S1x2048x1024, .f32⟩
  | .local _ .vmem, ⟨1, _⟩ => ⟨S1x2048x1024, .f32⟩
  | .local _ .vmem, ⟨2, _⟩ => ⟨S2050x1024, .f32⟩
  | .local _ .vmem, ⟨3, _⟩ => ⟨S2x1024, .f32⟩
  | .local _ .vmem, ⟨4, _⟩ => ⟨S1024x1024, .f32⟩
  | .local _ .vmem, ⟨5, _⟩ => ⟨S1x1024, .f32⟩
  | .local _ .vmem, ⟨6, _⟩ => ⟨S1x2050x1024, .f32⟩
  | .local _ .vmem, ⟨7, _⟩ => ⟨S1x2050x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_v0 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2050x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x2050x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S4x2048x1024 : Shape := ⟨3, ![4, 2048, 1024]⟩
abbrev S2050x1024 : Shape := ⟨2, ![2050, 1024]⟩
abbrev S2x1024 : Shape := ⟨2, ![2, 1024]⟩
abbrev S1024x1024 : Shape := ⟨2, ![1024, 1024]⟩
abbrev S1024 : Shape := ⟨1, ![1024]⟩
abbrev S_ : Shape := ⟨0, ![]⟩
abbrev S4x1x1024 : Shape := ⟨3, ![4, 1, 1024]⟩
abbrev S2050 : Shape := ⟨1, ![2050]⟩
abbrev S2050x1 : Shape := ⟨2, ![2050, 1]⟩
abbrev S1 : Shape := ⟨1, ![1]⟩
abbrev S1x1 : Shape := ⟨2, ![1, 1]⟩
abbrev S4x2050x1024 : Shape := ⟨3, ![4, 2050, 1024]⟩
abbrev S1x2050x1024 : Shape := ⟨3, ![1, 2050, 1024]⟩
abbrev S1x1x1024 : Shape := ⟨3, ![1, 1, 1024]⟩

abbrev nBuf : Space → Nat
  | .hbm => 75
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S2050x1024, .f32⟩
  | .hbm, ⟨2, _⟩ => ⟨S2x1024, .f32⟩
  | .hbm, ⟨3, _⟩ => ⟨S1024x1024, .f32⟩
  | .hbm, ⟨4, _⟩ => ⟨S1024, .f32⟩
  | .hbm, ⟨5, _⟩ => ⟨S_, .f32⟩
  | .hbm, ⟨6, _⟩ => ⟨S4x1x1024, .f32⟩
  | .hbm, ⟨7, _⟩ => ⟨S_, .f32⟩
  | .hbm, ⟨8, _⟩ => ⟨S4x1x1024, .f32⟩
  | .hbm, ⟨9, _⟩ => ⟨S4x1x1024, .f32⟩
  | .hbm, ⟨10, _⟩ => ⟨S_, .f32⟩
  | .hbm, ⟨11, _⟩ => ⟨S4x1x1024, .f32⟩
  | .hbm, ⟨12, _⟩ => ⟨S_, .f32⟩
  | .hbm, ⟨13, _⟩ => ⟨S4x1x1024, .f32⟩
  | .hbm, ⟨14, _⟩ => ⟨S4x1x1024, .f32⟩
  | .hbm, ⟨15, _⟩ => ⟨S2050, .i32⟩
  | .hbm, ⟨16, _⟩ => ⟨S_, .i32⟩
  | .hbm, ⟨17, _⟩ => ⟨S2050, .i32⟩
  | .hbm, ⟨18, _⟩ => ⟨S_, .i32⟩
  | .hbm, ⟨19, _⟩ => ⟨S2050, .i32⟩
  | .hbm, ⟨20, _⟩ => ⟨S2050, .i1⟩
  | .hbm, ⟨21, _⟩ => ⟨S_, .i32⟩
  | .hbm, ⟨22, _⟩ => ⟨S2050, .i32⟩
  | .hbm, ⟨23, _⟩ => ⟨S2050, .i32⟩
  | .hbm, ⟨24, _⟩ => ⟨S2050, .i32⟩
  | .hbm, ⟨25, _⟩ => ⟨S2050x1, .i32⟩
  | .hbm, ⟨26, _⟩ => ⟨S1, .i32⟩
  | .hbm, ⟨27, _⟩ => ⟨S_, .i32⟩
  | .hbm, ⟨28, _⟩ => ⟨S2050x1, .i32⟩
  | .hbm, ⟨29, _⟩ => ⟨S2050x1, .i1⟩
  | .hbm, ⟨30, _⟩ => ⟨S1x1, .i32⟩
  | .hbm, ⟨31, _⟩ => ⟨S2050x1, .i32⟩
  | .hbm, ⟨32, _⟩ => ⟨S2050x1, .i1⟩
  | .hbm, ⟨33, _⟩ => ⟨S2050x1, .i1⟩
  | .hbm, ⟨34, _⟩ => ⟨S_, .i1⟩
  | .hbm, ⟨35, _⟩ => ⟨S2050, .i1⟩
  | .hbm, ⟨36, _⟩ => ⟨S2050x1024, .f32⟩
  | .hbm, ⟨37, _⟩ => ⟨S2050x1024, .i1⟩
  | .hbm, ⟨38, _⟩ => ⟨S_, .f32⟩
  | .hbm, ⟨39, _⟩ => ⟨S2050x1024, .f32⟩
  | .hbm, ⟨40, _⟩ => ⟨S2050x1024, .f32⟩
  | .hbm, ⟨41, _⟩ => ⟨S_, .i32⟩
  | .hbm, ⟨42, _⟩ => ⟨S2050, .i32⟩
  | .hbm, ⟨43, _⟩ => ⟨S2050, .i1⟩
  | .hbm, ⟨44, _⟩ => ⟨S_, .i32⟩
  | .hbm, ⟨45, _⟩ => ⟨S2050, .i32⟩
  | .hbm, ⟨46, _⟩ => ⟨S2050, .i32⟩
  | .hbm, ⟨47, _⟩ => ⟨S2050, .i32⟩
  | .hbm, ⟨48, _⟩ => ⟨S2050x1, .i32⟩
  | .hbm, ⟨49, _⟩ => ⟨S1, .i32⟩
  | .hbm, ⟨50, _⟩ => ⟨S_, .i32⟩
  | .hbm, ⟨51, _⟩ => ⟨S2050x1, .i32⟩
  | .hbm, ⟨52, _⟩ => ⟨S2050x1, .i1⟩
  | .hbm, ⟨53, _⟩ => ⟨S1x1, .i32⟩
  | .hbm, ⟨54, _⟩ => ⟨S2050x1, .i32⟩
  | .hbm, ⟨55, _⟩ => ⟨S2050x1, .i1⟩
  | .hbm, ⟨56, _⟩ => ⟨S2050x1, .i1⟩
  | .hbm, ⟨57, _⟩ => ⟨S_, .i1⟩
  | .hbm, ⟨58, _⟩ => ⟨S2050, .i1⟩
  | .hbm, ⟨59, _⟩ => ⟨S2050x1024, .f32⟩
  | .hbm, ⟨60, _⟩ => ⟨S2050x1024, .i1⟩
  | .hbm, ⟨61, _⟩ => ⟨S_, .f32⟩
  | .hbm, ⟨62, _⟩ => ⟨S2050x1024, .f32⟩
  | .hbm, ⟨63, _⟩ => ⟨S2050x1024, .f32⟩
  | .hbm, ⟨64, _⟩ => ⟨S4x2050x1024, .f32⟩
  | .hbm, ⟨65, _⟩ => ⟨S1x2050x1024, .f32⟩
  | .hbm, ⟨66, _⟩ => ⟨S4x2050x1024, .f32⟩
  | .hbm, ⟨67, _⟩ => ⟨S4x2050x1024, .f32⟩
  | .hbm, ⟨68, _⟩ => ⟨S1x2050x1024, .f32⟩
  | .hbm, ⟨69, _⟩ => ⟨S4x2050x1024, .f32⟩
  | .hbm, ⟨70, _⟩ => ⟨S4x2050x1024, .f32⟩
  | .hbm, ⟨71, _⟩ => ⟨S4x2050x1024, .f32⟩
  | .hbm, ⟨72, _⟩ => ⟨S1x1x1024, .f32⟩
  | .hbm, ⟨73, _⟩ => ⟨S4x2050x1024, .f32⟩
  | .hbm, ⟨74, _⟩ => ⟨S4x2050x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_call0_c : Ref sig .tc := ⟨.hbm, 18, rfl⟩
abbrev main_call0_v0 : Ref sig .tc := ⟨.hbm, 19, rfl⟩
abbrev main_call0_v1 : Ref sig .tc := ⟨.hbm, 20, rfl⟩
abbrev main_call0_c_0 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_c_1 : Ref sig .tc := ⟨.hbm, 26, rfl⟩
abbrev main_call0_c_2 : Ref sig .tc := ⟨.hbm, 27, rfl⟩
abbrev main_call0_v6 : Ref sig .tc := ⟨.hbm, 28, rfl⟩
abbrev main_call0_v7 : Ref sig .tc := ⟨.hbm, 29, rfl⟩
abbrev main_call0_v8 : Ref sig .tc := ⟨.hbm, 30, rfl⟩
abbrev main_call0_v9 : Ref sig .tc := ⟨.hbm, 31, rfl⟩
abbrev main_call0_v10 : Ref sig .tc := ⟨.hbm, 32, rfl⟩
abbrev main_call0_v11 : Ref sig .tc := ⟨.hbm, 33, rfl⟩
abbrev main_call0_c_3 : Ref sig .tc := ⟨.hbm, 34, rfl⟩
abbrev main_call0_v12 : Ref sig .tc := ⟨.hbm, 35, rfl⟩
abbrev main_call0_v13 : Ref sig .tc := ⟨.hbm, 36, rfl⟩
abbrev main_call0_v14 : Ref sig .tc := ⟨.hbm, 37, rfl⟩
abbrev main_call0_cst : Ref sig .tc := ⟨.hbm, 38, rfl⟩
abbrev main_call0_v15 : Ref sig .tc := ⟨.hbm, 39, rfl⟩
abbrev main_v8 : Ref sig .tc := ⟨.hbm, 40, rfl⟩
abbrev main_call1_c : Ref sig .tc := ⟨.hbm, 41, rfl⟩
abbrev main_call1_v0 : Ref sig .tc := ⟨.hbm, 42, rfl⟩
abbrev main_call1_v1 : Ref sig .tc := ⟨.hbm, 43, rfl⟩
abbrev main_call1_c_0 : Ref sig .tc := ⟨.hbm, 44, rfl⟩
abbrev main_call1_v2 : Ref sig .tc := ⟨.hbm, 45, rfl⟩
abbrev main_call1_v3 : Ref sig .tc := ⟨.hbm, 46, rfl⟩
abbrev main_call1_v4 : Ref sig .tc := ⟨.hbm, 47, rfl⟩
abbrev main_call1_v5 : Ref sig .tc := ⟨.hbm, 48, rfl⟩
abbrev main_call1_c_1 : Ref sig .tc := ⟨.hbm, 49, rfl⟩
abbrev main_call1_c_2 : Ref sig .tc := ⟨.hbm, 50, rfl⟩
abbrev main_call1_v6 : Ref sig .tc := ⟨.hbm, 51, rfl⟩
abbrev main_call1_v7 : Ref sig .tc := ⟨.hbm, 52, rfl⟩
abbrev main_call1_v8 : Ref sig .tc := ⟨.hbm, 53, rfl⟩
abbrev main_call1_v9 : Ref sig .tc := ⟨.hbm, 54, rfl⟩
abbrev main_call1_v10 : Ref sig .tc := ⟨.hbm, 55, rfl⟩
abbrev main_call1_v11 : Ref sig .tc := ⟨.hbm, 56, rfl⟩
abbrev main_call1_c_3 : Ref sig .tc := ⟨.hbm, 57, rfl⟩
abbrev main_call1_v12 : Ref sig .tc := ⟨.hbm, 58, rfl⟩
abbrev main_call1_v13 : Ref sig .tc := ⟨.hbm, 59, rfl⟩
abbrev main_call1_v14 : Ref sig .tc := ⟨.hbm, 60, rfl⟩
abbrev main_call1_cst : Ref sig .tc := ⟨.hbm, 61, rfl⟩
abbrev main_call1_v15 : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩

abbrev nD : Nat := 1
abbrev τ : Topo := Topo.v7x

variable {F : FTy → Type} [FloatOps F]
-- ==== Proof.Spec.lean ====
/- What both programs compute, written once over the argument arrays: a linear map of the embedded tokens. -/
module

public import Idealize.ShloMosaic.Lib.Pointwise
public import Idealize.ShloMosaic.Lib.IdealHost

@[expose] public section

noncomputable section

namespace Embed

open Idealize.ShloMosaic
open scoped BigOperators

/-- The literal 2.0, the separator token's entries, as an extended real. -/
abbrev sep : EReal := Ideal.ofBits .f32 0x40000000#32

/-- Entry `k` of token `r` of batch element `i`: ones for the leading class token, then the signal's rows, then
    the separator token. -/
def token (x : (⟨3, ![4, 2048, 1024]⟩ : Shape).Idx → EReal) (i : Fin 4) (r : Fin 2050) (k : Fin 1024) : EReal :=
  if r.val < 1 then 1
  else if h : r.val - 1 < 2048 then x (ix3 i ⟨r.val - 1, h⟩ k)
  else sep

/-- Entry `(i, r, c)` of the result: the token with its position's and its segment's row added, times column `c` of
    the weights, plus the bias. -/
def entry (x : (⟨3, ![4, 2048, 1024]⟩ : Shape).Idx → EReal) (pos : (⟨2, ![2050, 1024]⟩ : Shape).Idx → EReal)
    (seg : (⟨2, ![2, 1024]⟩ : Shape).Idx → EReal) (W : (⟨2, ![1024, 1024]⟩ : Shape).Idx → EReal)
    (b : (⟨1, ![1024]⟩ : Shape).Idx → EReal) (i : Fin 4) (r : Fin 2050) (c : Fin 1024) : EReal :=
  (∑ k : Fin 1024, (token x i r k + pos (ix2 r k) + seg (ix2 0 k)) * W (ix2 k c)) + b (ix1 c)

/-- The result array. -/
def result (x : (⟨3, ![4, 2048, 1024]⟩ : Shape).Idx → EReal) (pos : (⟨2, ![2050, 1024]⟩ : Shape).Idx → EReal)
    (seg : (⟨2, ![2, 1024]⟩ : Shape).Idx → EReal) (W : (⟨2, ![1024, 1024]⟩ : Shape).Idx → EReal)
    (b : (⟨1, ![1024]⟩ : Shape).Idx → EReal) : (⟨3, ![4, 2050, 1024]⟩ : Shape).Idx → EReal :=
  fun j => entry x pos seg W b (j 0) (j 1) (j 2)

end Embed

end
-- ==== Proof.Block.lean ====
/- What one grid point's body computes from its blocks, entry by entry. -/
module

public import proofs.«01_k».proof.Proof.Gen.KernelIdeal.Value
public import proofs.«01_k».proof.Proof.Spec

@[expose] public section

noncomputable section

namespace Cert.KernelIdeal.Block

open Cert.KernelIdeal Cert.KernelIdeal.Gen Idealize.ShloMosaic
open scoped BigOperators

/-- The stored block at row `r`, column `c`, of the loaded blocks: when the block of the signal is batch element `i`
    of `x`, and the loaded rows of the segment table and of the bias are row 0 of `seg` and `b`, it is the result's
    entry `(i, r, c)`. -/
theorem pay_apply (seg0 : S1x1024.Idx → EReal) (x0 : S1x2048x1024.Idx → EReal) (pos : S2050x1024.Idx → EReal)
    (W : S1024x1024.Idx → EReal) (b0 : S1x1024.Idx → EReal) (x : S4x2048x1024.Idx → EReal) (seg : S2x1024.Idx → EReal)
    (b : S1024.Idx → EReal) (i : Fin 4) (hx : ∀ p k, x0 (ix3 0 p k) = x (ix3 i p k))
    (hseg : ∀ k, seg0 (ix2 0 k) = seg (ix2 0 k)) (hb : ∀ c, b0 (ix2 0 c) = b (ix1 c)) (r : Fin 2050) (c : Fin 1024) :
    k0_pay1 (F := Ideal) seg0 x0 pos W b0 (ix3 0 r c) = Embed.entry x pos seg W b i r c := by
  pointwise [k0_pay1]
  simp only [hx, hseg, hb, Embed.entry, Embed.token]
  rfl

end Cert.KernelIdeal.Block

end
-- ==== Proof.Array.lean ====
/- The kernel's result array: the blocks that its four grid points write back are the four batch elements of one array. -/
module

public import proofs.«01_k».proof.Proof.Block
public import Idealize.ShloMosaic.Lib.Pipeline.ValueKit.Tiles

@[expose] public section

noncomputable section

namespace Cert.KernelIdeal.Array

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- What the whole result array holds after the run. -/
def result (c : Dev nD) : S4x2050x1024.Idx → EReal :=
  Embed.result (m ((c : Thread nD τ).loc main_arg0)) (m ((c : Thread nD τ).loc main_arg1))
    (m ((c : Thread nD τ).loc main_arg2)) (m ((c : Thread nD τ).loc main_arg3)) (m ((c : Thread nD τ).loc main_arg4))

/-- The grid point's number, as the batch element it works on. -/
def elt (t : Fin cfg0.N) : Fin 4 := t.cast (by decide)

/-- The signal's window at point `t` starts at batch element `t`. -/
theorem idx0 : ∀ t : Fin cfg0.N, win0_0.index t 0 = t.val ∧ win0_0.index t 1 = 0 ∧ win0_0.index t 2 = 0 :=
  (by decide +kernel : ∀ t : Fin grid0.N, win0_0.index t 0 = t.val ∧ win0_0.index t 1 = 0 ∧ win0_0.index t 2 = 0)
/-- The position table's window never moves. -/
theorem idx1 : ∀ t : Fin cfg0.N, ∀ a, win0_1.index t a = 0 :=
  (by decide +kernel : ∀ t : Fin grid0.N, ∀ a, win0_1.index t a = 0)
/-- The segment table's window never moves. -/
theorem idx2 : ∀ t : Fin cfg0.N, ∀ a, win0_2.index t a = 0 :=
  (by decide +kernel : ∀ t : Fin grid0.N, ∀ a, win0_2.index t a = 0)
/-- The weights' window never moves. -/
theorem idx3 : ∀ t : Fin cfg0.N, ∀ a, win0_3.index t a = 0 :=
  (by decide +kernel : ∀ t : Fin grid0.N, ∀ a, win0_3.index t a = 0)
/-- The bias's window never moves. -/
theorem idx4 : ∀ t : Fin cfg0.N, ∀ a, win0_4.index t a = 0 :=
  (by decide +kernel : ∀ t : Fin grid0.N, ∀ a, win0_4.index t a = 0)
/-- The result's window at point `t` starts at batch element `t`. -/
theorem idx5 : ∀ t : Fin cfg0.N, win0_5.index t 0 = t.val ∧ win0_5.index t 1 = 0 ∧ win0_5.index t 2 = 0 :=
  (by decide +kernel : ∀ t : Fin grid0.N, win0_5.index t 0 = t.val ∧ win0_5.index t 1 = 0 ∧ win0_5.index t 2 = 0)

/-- The signal's block at point `t` is batch element `t`. -/
theorem iblk0 (c : Dev nD) (t : Fin cfg0.N) (p : Fin 2048) (k : Fin 1024) :
    (iblk m c 0 t : S1x2048x1024.Idx → EReal) (ix3 0 p k)
      = (m ((c : Thread nD τ).loc main_arg0) : S4x2048x1024.Idx → EReal) (ix3 (elt t) p k) := by
  rw [← V_main_arg0 m c]
  unfold iblk
  rw [View.read_apply]
  show V m c main_arg0 _ = V m c main_arg0 _
  obtain ⟨h0, h1, h2⟩ := idx0 t
  refine congrArg _ (funext fun a => Fin.ext ?_)
  match a with
  | ⟨0, _⟩ => show win0_0.index t 0 * 1 + 1 * 0 = t.val; omega
  | ⟨1, _⟩ => show win0_0.index t 1 * 2048 + 1 * p.val = p.val; omega
  | ⟨2, _⟩ => show win0_0.index t 2 * 1024 + 1 * k.val = k.val; omega

/-- The position table's block is the whole table, at every point. -/
theorem iblk1 (c : Dev nD) (t : Fin cfg0.N) : iblk m c 1 t = m ((c : Thread nD τ).loc main_arg1) := by
  rw [← V_main_arg1 m c]
  exact Memref.read_access_unit_zero (Elt Ideal) main_arg1 (funext fun a => by show win0_1.index t a * _ = 0; rw [idx1 t a, Nat.zero_mul]) _ _

/-- The segment table's block is the whole table, at every point. -/
theorem iblk2 (c : Dev nD) (t : Fin cfg0.N) : iblk m c 2 t = m ((c : Thread nD τ).loc main_arg2) := by
  rw [← V_main_arg2 m c]
  exact Memref.read_access_unit_zero (Elt Ideal) main_arg2 (funext fun a => by show win0_2.index t a * _ = 0; rw [idx2 t a, Nat.zero_mul]) _ _

/-- The weights' block is the whole matrix, at every point. -/
theorem iblk3 (c : Dev nD) (t : Fin cfg0.N) : iblk m c 3 t = m ((c : Thread nD τ).loc main_arg3) := by
  rw [← V_main_arg3 m c]
  exact Memref.read_access_unit_zero (Elt Ideal) main_arg3 (funext fun a => by show win0_3.index t a * _ = 0; rw [idx3 t a, Nat.zero_mul]) _ _

/-- The bias's block is the bias as one row, at every point. -/
theorem iblk4 (c : Dev nD) (t : Fin cfg0.N) (k : Fin 1024) : (iblk m c 4 t : S1x1024.Idx → EReal) (ix2 0 k)
    = (m ((c : Thread nD τ).loc main_arg4) : S1024.Idx → EReal) (ix1 k) := by
  have e : iblk m c 4 t = V m c main_call0_v0 :=
    Memref.read_access_unit_zero (Elt Ideal) main_call0_v0 (funext fun a => by show win0_4.index t a * _ = 0; rw [idx4 t a, Nat.zero_mul]) _ _
  rw [e]
  have hV : (V m c main_call0_v0 : S1x1024.Idx → EReal) = shapeCast S1x1024 (m ((c : Thread nD τ).loc main_arg4) : S1024.Idx → EReal) shapeCasts_S1024_S1x1024 := by
    unfold V hostOps0
    after_results
    rfl
  rw [hV]
  pointwise

/-- The stored block is the body's term of the loaded blocks: every load but the segment row's is of a whole block. -/
theorem out_eq (x0 : Vec Ideal S1x2048x1024 .f32) (x1 : Vec Ideal S2050x1024 .f32) (x2 : Vec Ideal S2x1024 .f32) (x3 : Vec Ideal S1024x1024 .f32) (x4 : Vec Ideal S1x1024 .f32) :
    out0_5 (F := Ideal) x0 x1 x2 x3 x4 = k0_pay1 (F := Ideal) (View.ld x2 r0_0) x0 x1 x3 x4 := by
  have z3 : (![0, 0, 0] : Fin 3 → ℕ) = fun _ => 0 := by decide
  have z2 : (![0, 0] : Fin 2 → ℕ) = fun _ => 0 := by decide
  have e0 : View.ld x0 r0_1 = x0 := View.ld_unit_zero z3 _ x0
  have e1 : View.ld x1 r0_2 = x1 := View.ld_unit_zero z2 _ x1
  have e3 : View.ld x3 r0_3 = x3 := View.ld_unit_zero z2 _ x3
  have e4 : View.ld x4 r0_4 = x4 := View.ld_unit_zero z2 _ x4
  unfold out0_5
  rw [e0, e1, e3, e4]
  exact View.canon_unit_zero z3 _ _

/-- Point `t` writes back batch element `t` of the result. -/
theorem flushed_eq (c : Dev nD) (t : Fin cfg0.N) (hf : (cfg0.win 5).flush t = true) :
    (dats m 0 c).flushed 5 t = ((cfg0.win 5).blk t).view.read (Elt Ideal) (result m c) := by
  rw [Value.flushed5]
  refine funext fun (j : S1x2050x1024.Idx) => ?_
  obtain ⟨h0, h1, h2⟩ := idx5 t
  have ej : j = ix3 0 (j 1) (j 2) := funext fun a => by
    match a with
    | ⟨0, _⟩ => exact Subsingleton.elim (α := Fin 1) _ _
    | ⟨1, _⟩ => rfl
    | ⟨2, _⟩ => rfl
  have hr : ((cfg0.win 5).blk t).view.read (Elt Ideal) (result m c) j
      = Embed.entry (m ((c : Thread nD τ).loc main_arg0)) (m ((c : Thread nD τ).loc main_arg1))
        (m ((c : Thread nD τ).loc main_arg2)) (m ((c : Thread nD τ).loc main_arg3)) (m ((c : Thread nD τ).loc main_arg4))
        (elt t) (j 1) (j 2) := by
    rw [View.read_apply]
    refine congrArg (result m c) (a₂ := ix3 (elt t) (j 1) (j 2)) (funext fun a => Fin.ext ?_)
    match a with
    | ⟨0, _⟩ =>
      have hj : (j 0).val < 1 := (j 0).isLt
      show win0_5.index t 0 * 1 + 1 * (j 0).val = t.val
      omega
    | ⟨1, _⟩ => show win0_5.index t 1 * 2050 + 1 * (j 1).val = (j 1).val; omega
    | ⟨2, _⟩ => show win0_5.index t 2 * 1024 + 1 * (j 2).val = (j 2).val; omega
  rw [hr]
  show out0_5 (iblk m c 0 t) (iblk m c 1 t) (iblk m c 2 t) (iblk m c 3 t) (iblk m c 4 t) j = _
  rw [out_eq, iblk1, iblk3, ej]
  refine Block.pay_apply _ _ _ _ _ _ _ _ _ (iblk0 m c t) (fun k => ?_) (iblk4 m c t) _ _
  rw [iblk2]
  exact View.ld_unit_apply_of _ _ _ _ _ _ fun a => by
    match a with
    | ⟨0, _⟩ => rfl
    | ⟨1, _⟩ => exact (Nat.zero_add _).symm

/-- Every index of the result lies in some point's block. -/
theorem covered (i : S4x2050x1024.Idx) : ∃ t : Fin cfg0.N, (cfg0.win 5).flush t = true ∧ i ∈ ((cfg0.win 5).blk t).view.set := by
  let t : Fin cfg0.N := (i 0).cast (by decide : (4 : ℕ) = grid0.N)
  obtain ⟨h0, h1, h2⟩ := idx5 t
  refine ⟨t, flush0_5 t, ?_⟩
  rw [show ((cfg0.win 5).blk _).view.set = _ from View.set_slice_whole _ _, Rect.mem_set_unit]
  intro a
  match a with
  | ⟨0, _⟩ =>
    show win0_5.index t 0 * 1 ≤ (i 0).val ∧ (i 0).val < win0_5.index t 0 * 1 + 1
    have ht : t.val = (i 0).val := rfl
    omega
  | ⟨1, _⟩ =>
    have hi : (i 1).val < 2050 := (i 1).isLt
    show win0_5.index t 1 * 2050 ≤ (i 1).val ∧ (i 1).val < win0_5.index t 1 * 2050 + 2050
    omega
  | ⟨2, _⟩ =>
    have hi : (i 2).val < 1024 := (i 2).isLt
    show win0_5.index t 2 * 1024 ≤ (i 2).val ∧ (i 2).val < win0_5.index t 2 * 1024 + 1024
    omega

/-- So the result array ends at `result`. -/
theorem final (c : Dev nD) : (dats m 0 c).arrAt 5 cfg0.N = result m c :=
  (dats m 0 c).arrAt_eq_of_cover 5 (result m c) (flushed_eq m c) covered

end Cert.KernelIdeal.Array

end
-- ==== Proof.Ref.lean ====
/- The reference's result array, entry by entry. -/
module

public import proofs.«01_k».proof.Proof.Gen.ReferenceIdeal.Run
public import proofs.«01_k».proof.Proof.Spec
public import Idealize.ShloMosaic.Lib.WordCmp
public import Idealize.ShloMosaic.Lib.Routing.Ops

@[expose] public section

noncomputable section

namespace Cert.ReferenceIdeal.Entry

open Cert.ReferenceIdeal Cert.ReferenceIdeal.Gen Idealize.ShloMosaic
open scoped BigOperators

/-- The word of a row number is not negative. -/
theorem not_neg (r : Fin 2050) : IntOp.cmpi .slt (BitVec.ofNat 32 r.val) 0#32 = 0#1 := by
  rw [WordCmp.cmpi_slt_ofNat (by have := r.isLt; omega) (by decide), decide_eq_false (Nat.not_lt_zero _)]; rfl

/-- The word of a row number is at least zero. -/
theorem ge_zero (r : Fin 2050) : IntOp.cmpi .sge (BitVec.ofNat 32 r.val) 0#32 = 1#1 := by
  rw [WordCmp.cmpi_sge_ofNat (by have := r.isLt; omega) (by decide), decide_eq_true (Nat.zero_le _)]; rfl

/-- The word of a row number is at most the last row's. -/
theorem le_last (r : Fin 2050) : IntOp.cmpi .sle (BitVec.ofNat 32 r.val) 2049#32 = 1#1 := by
  rw [WordCmp.cmpi_sle_ofNat (by have := r.isLt; omega) (by decide), decide_eq_true (by have := r.isLt; omega)]; rfl

/-- Looking up row `r` of the position table starts at row `r`: the wrap of negative indices leaves a row number alone. -/
theorem take_row (r : Fin 2050) :
    Scalar.select (IntOp.cmpi .slt (BitVec.ofNat 32 r.val) 0#32) (IntOp.addi (BitVec.ofNat 32 r.val) 2050#32)
      (BitVec.ofNat 32 r.val) = BitVec.ofNat 32 r.val := by
  rw [not_neg]; rfl

/-- Looking up row 0 of the segment table starts at row 0. -/
theorem take_zero : Scalar.select (IntOp.cmpi .slt 0#32 0#32) (IntOp.addi 0#32 2#32) 0#32 = 0#32 := by decide

/-- The lookup's range check holds where every index of the row is in range. -/
theorem in_range (f : Fin 1 → BitVec 1) (h : ∀ k, f k = 1#1) : Finset.fold IntOp.andi 1#1 f Finset.univ = 1#1 := by
  rw [show f = fun _ => 1#1 from funext h]; decide

/-- The position lookup reads row `r` of the table. -/
theorem gather_pos (p : S2050x1024.Idx → EReal) (idx : IVec S2050x1 32) (r : Fin 2050) (k : Fin 1024)
    (h : idx (ix2 r 0) = BitVec.ofNat 32 r.val) :
    Host.gather gather_S2050x1024_S2050x1_S2050x1024_1_0_n_n_0_1_11024 p idx (ix2 r k) = p (ix2 r k) := by
  rw [ix2_eq_valueIdx] at h
  rw [ix2_eq_valueIdx]
  exact Routing.gather_row _ rfl rfl rfl rfl rfl p idx r k r h (by decide)

/-- The segment lookup reads row 0 of the table. -/
theorem gather_seg (s : S2x1024.Idx → EReal) (idx : IVec S2050x1 32) (r : Fin 2050) (k : Fin 1024)
    (h : idx (ix2 r 0) = 0#32) :
    Host.gather gather_S2x1024_S2050x1_S2050x1024_1_0_n_n_0_1_11024 s idx (ix2 r k) = s (ix2 0 k) := by
  rw [ix2_eq_valueIdx] at h
  rw [ix2_eq_valueIdx, ix2_eq_valueIdx]
  exact Routing.gather_row _ rfl rfl rfl rfl rfl s idx r k 0 h (by decide)

/-- The reference's result at batch element `i`, row `r`, column `c` is the specification's entry. -/
theorem res (m : (ℓ : Loc nD τ sig) → Buf (Elt Ideal) ℓ) (d : Dev nD) (i : Fin 4) (r : Fin 2050) (c : Fin 1024) :
    (Value.res_out0 m d : S4x2050x1024.Idx → EReal) (ix3 i r c) =
      Embed.entry (m ((d.tc : Thread nD τ).loc main_arg0)) (m ((d.tc : Thread nD τ).loc main_arg1))
        (m ((d.tc : Thread nD τ).loc main_arg2)) (m ((d.tc : Thread nD τ).loc main_arg3))
        (m ((d.tc : Thread nD τ).loc main_arg4)) i r c := by
  unfold Value.res_out0 Value.res_main_v20
  pointwise
  simp only [take_row, take_zero, ge_zero, le_last]
  rw [Embed.entry]
  refine congrArg (· + _) (Finset.sum_congr rfl fun k _ => ?_)
  rw [gather_pos _ _ r k (by pointwise; exact take_row r), gather_seg _ _ r k (by pointwise; exact take_zero),
    in_range _ (fun _ => by decide), in_range _ (fun _ => by decide)]
  rfl

/-- The reference's result is the specification's array. -/
theorem res_eq (m : (ℓ : Loc nD τ sig) → Buf (Elt Ideal) ℓ) (d : Dev nD) :
    (Value.res_out0 m d : S4x2050x1024.Idx → EReal) =
      Embed.result (m ((d.tc : Thread nD τ).loc main_arg0)) (m ((d.tc : Thread nD τ).loc main_arg1))
        (m ((d.tc : Thread nD τ).loc main_arg2)) (m ((d.tc : Thread nD τ).loc main_arg3))
        (m ((d.tc : Thread nD τ).loc main_arg4)) := by
  refine funext fun (j : S4x2050x1024.Idx) => ?_
  have ej : j = ix3 (j 0) (j 1) (j 2) := funext fun a => by
    match a with
    | ⟨0, _⟩ => rfl
    | ⟨1, _⟩ => rfl
    | ⟨2, _⟩ => rfl
  rw [ej]
  exact res m d (j 0) (j 1) (j 2)

end Cert.ReferenceIdeal.Entry

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Array
public import proofs.«01_k».proof.Proof.Ref
public import Idealize.ShloMosaic.Lib.Quiescent

@[expose] public section

noncomputable section

namespace Cert.Proof

open Idealize.ShloMosaic Idealize.SL.Sem Cert.Kernel

/-- The reference runs to completion from any memory, leaves its arguments as they were and every counter at zero. -/
theorem frame_reference : @Cert.quiescent_ReferenceIdeal Cert.ReferenceIdeal.Gen.facts := fun m ρ _ =>
  (θ_run _ _ _).mono (fun r h => ⟨fun c => (h c).2, sem_eq_zero_of_no_sems rfl r.2⟩) (Cert.ReferenceIdeal.Value.run m ρ)

/-- From memories that agree on the arguments, the kernel and the reference end with the same array as their results. -/
theorem same_result : @Cert.algebraic_KernelIdeal_ReferenceIdeal Cert.KernelIdeal.Gen.facts Cert.ReferenceIdeal.Gen.facts :=
  fun m ρ m' ρ' _ agree => by
  refine ⟨fun c => Cert.KernelIdeal.Array.result m c, ?_, ?_⟩
  · exact (θ_run _ _ _).mono (fun r h c => ⟨(h c).1.trans (Cert.KernelIdeal.Array.final m c), (h c).2⟩)
      (Cert.KernelIdeal.Value.run_blocks m ρ)
  · refine (θ_run _ _ _).mono (fun r h c => ⟨(h c).1.trans ?_, (h c).2⟩) (Cert.ReferenceIdeal.Value.run m' ρ')
    obtain ⟨a0, a1, a2, a3, a4⟩ := agree c
    refine (Cert.ReferenceIdeal.Entry.res_eq m' c).trans ?_
    rw [a0, a1, a2, a3, a4]
    rfl

/-- All five claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, same_result⟩

end Cert.Proof

end
